-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x2048 : Shape := ⟨3, ![2, 384, 2048]⟩
abbrev S4096x2048 : Shape := ⟨2, ![4096, 2048]⟩
abbrev S4096 : Shape := ⟨1, ![4096]⟩
abbrev S2x384x4096 : Shape := ⟨3, ![2, 384, 4096]⟩
abbrev S768x2048 : Shape := ⟨2, ![768, 2048]⟩
abbrev S1x4096 : Shape := ⟨2, ![1, 4096]⟩
abbrev S768x4096 : Shape := ⟨2, ![768, 4096]⟩
abbrev S512x2048 : Shape := ⟨2, ![512, 2048]⟩
abbrev S1x512 : Shape := ⟨2, ![1, 512]⟩
abbrev S768x512 : Shape := ⟨2, ![768, 512]⟩
abbrev S1x128 : Shape := ⟨2, ![1, 128]⟩
abbrev S128x128 : Shape := ⟨2, ![128, 128]⟩
abbrev S512x128 : Shape := ⟨2, ![512, 128]⟩

abbrev nBuf : Space → Nat
  | .hbm => 9
  | .vmem => 9
  | .smem => 0
  | _ => 0

abbrev bufTy : (tb : Table) → Fin (tcTables nBuf tb) → BufTy
  | .hbm, ⟨0, _⟩ => ⟨S2x384x2048, .bf16⟩
  | .hbm, ⟨1, _⟩ => ⟨S4096x2048, .i8⟩
  | .hbm, ⟨2, _⟩ => ⟨S4096, .f32⟩
  | .hbm, ⟨3, _⟩ => ⟨S2x384x4096, .bf16⟩
  | .hbm, ⟨4, _⟩ => ⟨S768x2048, .bf16⟩
  | .hbm, ⟨5, _⟩ => ⟨S1x4096, .f32⟩
  | .hbm, ⟨6, _⟩ => ⟨S768x4096, .bf16⟩
  | .hbm, ⟨7, _⟩ => ⟨S768x4096, .bf16⟩
  | .hbm, ⟨8, _⟩ => ⟨S2x384x4096, .bf16⟩
  | .local _ .vmem, ⟨0, _⟩ => ⟨S768x2048, .bf16⟩
  | .local _ .vmem, ⟨1, _⟩ => ⟨S512x2048, .i8⟩
  | .local _ .vmem, ⟨2, _⟩ => ⟨S512x2048, .i8⟩
  | .local _ .vmem, ⟨3, _⟩ => ⟨S1x512, .f32⟩
  | .local _ .vmem, ⟨4, _⟩ => ⟨S1x512, .f32⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | _, _ => ⟨S2x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x384x2048 : Shape := ⟨3, ![2, 384, 2048]⟩
abbrev S4096x2048 : Shape := ⟨2, ![4096, 2048]⟩
abbrev S4096 : Shape := ⟨1, ![4096]⟩
abbrev S2x384x4096 : Shape := ⟨3, ![2, 384, 4096]⟩
abbrev S4096x1 : Shape := ⟨2, ![4096, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x384x2048, .bf16⟩
  | .hbm, ⟨1, _⟩ => ⟨S4096x2048, .i8⟩
  | .hbm, ⟨2, _⟩ => ⟨S4096, .f32⟩
  | .hbm, ⟨3, _⟩ => ⟨S2x384x4096, .bf16⟩
  | .hbm, ⟨4, _⟩ => ⟨S2x384x4096, .bf16⟩
  | .local _ .vmem, ⟨0, _⟩ => ⟨S2x384x2048, .bf16⟩
  | .local _ .vmem, ⟨1, _⟩ => ⟨S4096x2048, .i8⟩
  | .local _ .vmem, ⟨2, _⟩ => ⟨S4096, .f32⟩
  | .local _ .vmem, ⟨3, _⟩ => ⟨S2x384x4096, .bf16⟩
  | .local _ .vmem, ⟨4, _⟩ => ⟨S2x384x4096, .bf16⟩
  | _, _ => ⟨S2x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/-
  Hand-written, untrusted. WHAT ONE GRID POINT OF THE KERNEL COMPUTES, over the extended reals: from the 512 scales, the
  512 × 2048 weight codes, the 768 × 2048 activations and the 768 × 512 residual of its block, the product of the
  activations with the dequantised weights plus the residual (`pay_apply`).
-/
module

public import proofs.«01_k».proof.Proof.Gen.KernelIdeal.Skeleton
public import Idealize.ShloMosaic.Lib.Pointwise
public import Idealize.ShloMosaic.Lib.Pipeline.Value

@[expose] public section

noncomputable section

namespace Cert.Proof.Block

open Idealize.ShloMosaic Cert.KernelIdeal Cert.KernelIdeal.Gen

/-- The scales of 128 rows, cut out of the block's row of scales at lane `off`, copied down 128 rows and transposed: row
    `i` holds scale `off + i` in every lane. -/
def scaleRows (off : Nat) (s : FVec Ideal S1x512 .f32) (h : S1x512.Slices ![0, off] S1x128) : FVec Ideal S128x128 .f32 :=
  transpose S128x128 [1, 0] (broadcastTo S128x128 (shapeCast S1x128 (extractStridedSlice S1x128 ![0, off] s h)
    shapeCasts_S1x128_S1x128) broadcasts_S1x128_S128x128) transposes_S128x128_p1_0_S128x128

/-- Row `i` of `scaleRows off` holds scale `off + i`. -/
theorem scaleRows_apply (off : Nat) (s : FVec Ideal S1x512 .f32) (h : S1x512.Slices ![0, off] S1x128)
    (i l : Fin 128) (o : Fin 512) (ho : o.val = off + i.val) : scaleRows off s h (ix2 i l) = s (ix2 0 o) := by
  unfold scaleRows
  pointwise
  exact congrArg (fun a => s (ix2 0 a)) (Fin.ext ho.symm)

/-- The block's scales as a column of 512 rows, each scale in all of its row's 128 lanes. -/
def scaleCols (s : FVec Ideal S1x512 .f32) : FVec Ideal S512x128 .f32 :=
  concatenate S512x128 0 [⟨S128x128, scaleRows 0 s slices_S1x512_o0_0_S1x128⟩, ⟨S128x128, scaleRows 128 s slices_S1x512_o0_128_S1x128⟩,
    ⟨S128x128, scaleRows 256 s slices_S1x512_o0_256_S1x128⟩, ⟨S128x128, scaleRows 384 s slices_S1x512_o0_384_S1x128⟩]
    concatenates_S128x128_S128x128_S128x128_S128x128_S512x128_d0

/-- Row `o` of `scaleCols` holds scale `o`. -/
theorem scaleCols_apply (s : FVec Ideal S1x512 .f32) (o : Fin 512) (l : Fin 128) :
    scaleCols s (ix2 o l) = s (ix2 0 o) := by
  unfold scaleCols
  pointwise
  split_ifs
  all_goals refine scaleRows_apply _ s _ _ l o ?_; dsimp only; omega

/-- A block of 128 lanes laid sixteen times side by side. -/
def tile (y : FVec Ideal S512x128 .bf16) : FVec Ideal S512x2048 .bf16 :=
  concatenate S512x2048 1 [⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩, ⟨S512x128, y⟩]
    concatenates_S512x128_S512x128_S512x128_S512x128_S512x128_S512x128_S512x128_S512x128_S512x128_S512x128_S512x128_S512x128_S512x128_S512x128_S512x128_S512x128_S512x2048_d1

/-- Lane `k` of the tiled block is lane `k` modulo 128 of the block. -/
theorem tile_apply (y : FVec Ideal S512x128 .bf16) (o : Fin 512) (k : Fin 2048) :
    tile y (ix2 o k) = y (ix2 o ⟨k.val % 128, Nat.mod_lt _ (by decide)⟩) :=
  concatenate_replicate_apply (t := S512x2048) (s₁ := S512x128) 1 16 y _ rfl (ix2 o k) (ix2 o ⟨k.val % 128, Nat.mod_lt _ (by decide)⟩)
    rfl (fun b hb => by
      match b with
      | ⟨0, _⟩ => rfl
      | ⟨1, _⟩ => exact absurd rfl hb)

/-- The payload with its scale matrix named: over the extended reals the scales' two casts are the identity. -/
theorem pay_eq (s : Vec Ideal S1x512 .f32) (w : Vec Ideal S512x2048 .i8) (x : Vec Ideal S768x2048 .bf16)
    (r : Vec Ideal S768x512 .bf16) :
    k0_pay1 s w x r = addf (FloatOps.matmul (DotDims.transposedRhs 768 2048 512) none
        (shapeCast S768x2048 x shapeCasts_S768x2048_S768x2048 : FVec Ideal S768x2048 .bf16)
        (mulf (sitofp .bf16 w : FVec Ideal S512x2048 .bf16) (tile (scaleCols (shapeCast S1x512 s shapeCasts_S1x512_S1x512))))
        (constant S768x512 .f32 0x00000000#32))
      (shapeCast S768x512 r shapeCasts_S768x512_S768x512 : FVec Ideal S768x512 .f32) := rfl

/-- The block's product read at row `q`, column `o`: the sum over the 2048 contracted positions. -/
theorem dot_apply (x : FVec Ideal S768x2048 .bf16) (y : FVec Ideal S512x2048 .bf16) (q : Fin 768) (o : Fin 512) :
    FloatOps.matmul (DotDims.transposedRhs 768 2048 512) none x y (constant S768x512 .f32 0x00000000#32) (ix2 q o)
      = ∑ k : Fin 2048, x (ix2 q k) * y (ix2 o k) := by
  pointwise

/-- WHAT A GRID POINT STORES at row `q`, column `o`: the sum over `k` of activation times dequantised weight, plus the residual. -/
theorem pay_apply (s : Vec Ideal S1x512 .f32) (w : Vec Ideal S512x2048 .i8) (x : Vec Ideal S768x2048 .bf16)
    (r : Vec Ideal S768x512 .bf16) (q : Fin 768) (o : Fin 512) :
    k0_pay1 s w x r (ix2 q o)
      = ∑ k : Fin 2048, x (ix2 q k) * (FloatOps.sitofp (F := Ideal) .bf16 (w (ix2 o k)) * s (ix2 0 o)) + r (ix2 q o) := by
  rw [pay_eq]
  show FloatOps.matmul (DotDims.transposedRhs 768 2048 512) none _ _ _ (ix2 q o) + _ = _
  rw [dot_apply, shapeCast_self, shapeCast_self, shapeCast_self]
  refine congrArg (· + r (ix2 q o)) (Finset.sum_congr rfl fun k _ => congrArg (x (ix2 q k) * ·) ?_)
  show FloatOps.sitofp (F := Ideal) .bf16 (w (ix2 o k)) * tile (scaleCols s) (ix2 o k) = _
  rw [tile_apply, scaleCols_apply]

end Cert.Proof.Block

end
-- ==== Proof.Array.lean ====
/-
  Hand-written, untrusted. WHAT THE KERNEL'S RESULT ARRAY HOLDS, over the extended reals: the eight grid points write the
  eight column blocks of one function of the launched arrays (`G`), the blocks cover the array, and the last reshape lays
  it out as [2, 384, 4096] (`run`).
-/
module

public import proofs.«01_k».proof.Proof.Block
public import proofs.«01_k».proof.Proof.Gen.KernelIdeal.Frame

@[expose] public section

noncomputable section

namespace Cert.Proof.Array

open Idealize.ShloMosaic Idealize.SL.Sem Cert.KernelIdeal Cert.KernelIdeal.Gen Idealize.ShloMosaic.TcCoe
open Idealize.ShloMosaic.Pipeline (Dat)

variable (m : (ℓ : Loc nD τ sig) → Buf (Elt Ideal) ℓ) (ρ : Dev nD → PrngReg)

/-! ## The arrays as the region finds them -/

/-- The region finds the activations reshaped to one row per token. -/
theorem V_x (c : Dev nD) : V m c main_v0 = shapeCast S768x2048 (m ((c : Thread nD τ).loc main_arg0)) shapeCasts_S2x384x2048_S768x2048 := by
  rfl

/-- It finds the scales reshaped to one row. -/
theorem V_s (c : Dev nD) : V m c main_v1 = shapeCast S1x4096 (m ((c : Thread nD τ).loc main_arg2)) shapeCasts_S4096_S1x4096 := by
  rfl

/-- It finds the residual reshaped to one row per token. -/
theorem V_r (c : Dev nD) : V m c main_v2 = shapeCast S768x4096 (m ((c : Thread nD τ).loc main_arg3)) shapeCasts_S2x384x4096_S768x4096 := by
  rfl

/-! ## The windows' blocks -/

/-- The windows' block indices at grid point `t`: the activations' is always the first, the other windows move by one
    block of 512 output columns a point. -/
theorem index_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- Output column `o` of block `t`, in the whole array. -/
def col (t : Fin cfg0.N) (o : Fin 512) : Fin 4096 :=
  ⟨t.val * 512 + o.val, by have h : t.val < 8 := t.isLt; omega⟩

/-- The activations' block is the whole array. -/
theorem emb0 (t : Fin cfg0.N) (q : Fin 768) (k : Fin 2048) : ((cfg0.win 0).blk t).view.emb (ix2 q k) = ix2 q k := by
  obtain ⟨⟨h0, h1⟩, -⟩ := index_facts t
  funext a; apply Fin.ext
  match a with
  | ⟨0, _⟩ => show win0_0.index t (0 : Fin 2) * 768 + 1 * q.val = q.val; omega
  | ⟨1, _⟩ => show win0_0.index t (1 : Fin 2) * 2048 + 1 * k.val = k.val; omega

/-- Row `o` of the weights' block is row `col t o` of the weights. -/
theorem emb1 (t : Fin cfg0.N) (o : Fin 512) (k : Fin 2048) : ((cfg0.win 1).blk t).view.emb (ix2 o k) = ix2 (col t o) k := by
  obtain ⟨-, ⟨h0, h1⟩, -⟩ := index_facts t
  funext a; apply Fin.ext
  match a with
  | ⟨0, _⟩ => show win0_1.index t (0 : Fin 2) * 512 + 1 * o.val = t.val * 512 + o.val; omega
  | ⟨1, _⟩ => show win0_1.index t (1 : Fin 2) * 2048 + 1 * k.val = k.val; omega

/-- Scale `o` of the scales' block is scale `col t o`. -/
theorem emb2 (t : Fin cfg0.N) (o : Fin 512) : ((cfg0.win 2).blk t).view.emb (ix2 0 o) = ix2 0 (col t o) := by
  obtain ⟨-, -, ⟨h0, h1⟩, -⟩ := index_facts t
  funext a; apply Fin.ext
  match a with
  | ⟨0, _⟩ => show win0_2.index t (0 : Fin 2) * 1 + 1 * 0 = 0; omega
  | ⟨1, _⟩ => show win0_2.index t (1 : Fin 2) * 512 + 1 * o.val = t.val * 512 + o.val; omega

/-- Column `o` of the residual's block is column `col t o` of the residual. -/
theorem emb3 (t : Fin cfg0.N) (q : Fin 768) (o : Fin 512) : ((cfg0.win 3).blk t).view.emb (ix2 q o) = ix2 q (col t o) := by
  obtain ⟨-, -, -, ⟨h0, h1⟩, -⟩ := index_facts t
  funext a; apply Fin.ext
  match a with
  | ⟨0, _⟩ => show win0_3.index t (0 : Fin 2) * 768 + 1 * q.val = q.val; omega
  | ⟨1, _⟩ => show win0_3.index t (1 : Fin 2) * 512 + 1 * o.val = t.val * 512 + o.val; omega

/-- Column `o` of the result's block is column `col t o` of the result. -/
theorem emb4 (t : Fin cfg0.N) (q : Fin 768) (o : Fin 512) : ((cfg0.win 4).blk t).view.emb (ix2 q o) = ix2 q (col t o) := by
  obtain ⟨-, -, -, -, ⟨h0, h1⟩⟩ := index_facts t
  funext a; apply Fin.ext
  match a with
  | ⟨0, _⟩ => show win0_4.index t (0 : Fin 2) * 768 + 1 * q.val = q.val; omega
  | ⟨1, _⟩ => show win0_4.index t (1 : Fin 2) * 512 + 1 * o.val = t.val * 512 + o.val; omega

/-! ## What the points write -/

/-- THE RESULT, one row per token, as one function of the activations, codes, scales and residual: at token `q` and output
    column `o` the sum over `k` of `x[q, k] * (w[o, k] * s[o])`, plus `r[q, o]`. -/
def G (x : Vec Ideal S768x2048 .bf16) (w : Vec Ideal S4096x2048 .i8) (s : Vec Ideal S1x4096 .f32)
    (r : Vec Ideal S768x4096 .bf16) : Vec Ideal S768x4096 .bf16 := fun i =>
  ∑ k : Fin 2048, x (ix2 (i 0) k) * (FloatOps.sitofp (F := Ideal) .bf16 (w (ix2 (i 1) k)) * s (ix2 0 (i 1))) + r (ix2 (i 0) (i 1))

/-- `G` at token `q` and output column `p`. -/
theorem G_apply (x : Vec Ideal S768x2048 .bf16) (w : Vec Ideal S4096x2048 .i8) (s : Vec Ideal S1x4096 .f32)
    (r : Vec Ideal S768x4096 .bf16) (q : Fin 768) (p : Fin 4096) : G x w s r (ix2 q p)
      = ∑ k : Fin 2048, x (ix2 q k) * (FloatOps.sitofp (F := Ideal) .bf16 (w (ix2 p k)) * s (ix2 0 p)) + r (ix2 q p) := rfl

/-- `G` of the arrays as the region finds them. -/
def GV (c : Dev nD) : Vec Ideal S768x4096 .bf16 := G (V m c main_v0) (V m c main_arg1) (V m c main_v1) (V m c main_v2)

/-- The body's loads read whole blocks and its one store leaves its payload. -/
theorem out_eq (x0 : Vec Ideal S768x2048 .bf16) (x1 : Vec Ideal S512x2048 .i8) (x2 : Vec Ideal S1x512 .f32) (x3 : Vec Ideal S768x512 .bf16) :
    out0_4 x0 x1 x2 x3 = k0_pay1 x2 x1 x0 x3 := by
  have hz : ∀ S : Shape, (![0, 0] : Fin 2 → Nat) = fun _ => 0 := fun _ => funext fun a => by fin_cases a <;> rfl
  unfold out0_4
  rw [View.canon_unit_zero (hz S768x512), View.ld_unit_zero (S := S1x512) (hz S1x512) _ x2, View.ld_unit_zero (S := S512x2048) (hz S512x2048) _ x1,
    View.ld_unit_zero (S := S768x2048) (hz S768x2048) _ x0, View.ld_unit_zero (S := S768x512) (hz S768x512) _ x3]

/-- WHAT POINT `t` WRITES BACK is its block of `GV`. -/
theorem flushed_eq (c : Dev nD) (t : Fin cfg0.N) :
    (dats m 0 c).flushed 4 t = ((cfg0.win 4).blk t).view.read (Elt Ideal) (GV m c) := by
  show (cfg0.win 4).cut (grid0.coords t) ((dats m 0 c).after 4 t) = _
  rw [after0_4, out_eq]
  funext j
  obtain ⟨q, o, rfl⟩ : ∃ (q : Fin 768) (o : Fin 512), j = ix2 q o := ⟨j 0, j 1, by funext a; match a with | ⟨0, _⟩ => rfl | ⟨1, _⟩ => rfl⟩
  show k0_pay1 (iblk m c 2 t) (iblk m c 1 t) (iblk m c 0 t) (iblk m c 3 t) (ix2 q o) = GV m c (((cfg0.win 4).blk t).view.emb (ix2 q o))
  rw [emb4, Block.pay_apply]
  refine Eq.trans ?_ (G_apply (V m c main_v0) (V m c main_arg1) (V m c main_v1) (V m c main_v2) q (col t o)).symm
  have e0 : ∀ k, iblk m c 0 t (ix2 q k) = V m c main_v0 (ix2 q k) := fun k => by
    show V m c main_v0 (((cfg0.win 0).blk t).view.emb (ix2 q k)) = _; rw [emb0]
  have e1 : ∀ k, iblk m c 1 t (ix2 o k) = V m c main_arg1 (ix2 (col t o) k) := fun k => by
    show V m c main_arg1 (((cfg0.win 1).blk t).view.emb (ix2 o k)) = _; rw [emb1]
  have e2 : iblk m c 2 t (ix2 0 o) = V m c main_v1 (ix2 0 (col t o)) := by
    show V m c main_v1 (((cfg0.win 2).blk t).view.emb (ix2 0 o)) = _; rw [emb2]
  have e3 : iblk m c 3 t (ix2 q o) = V m c main_v2 (ix2 q (col t o)) := by
    show V m c main_v2 (((cfg0.win 3).blk t).view.emb (ix2 q o)) = _; rw [emb3]
  simp only [e0, e1, e2, e3]

/-- Every index of the array is in the block of the point of its column. -/
theorem covered (i : S768x4096.Idx) : ∃ t : Fin cfg0.N, (cfg0.win 4).flush t = true ∧ i ∈ ((cfg0.win 4).blk t).view.set := by
  have hi : (i 1).val < 4096 := (i 1).isLt
  have ht : (i 1).val / 512 < 8 := by omega
  let t : Fin cfg0.N := ⟨(i 1).val / 512, ht⟩
  refine ⟨t, flush0_4 t, ?_⟩
  have h := ((cfg0.win 4).blk t).view.emb_mem_set (ix2 (i 0) (⟨(i 1).val % 512, Nat.mod_lt _ (by decide)⟩ : Fin 512))
  rw [show ((cfg0.win 4).blk t).view.emb (ix2 (i 0) (⟨(i 1).val % 512, Nat.mod_lt _ (by decide)⟩ : Fin 512)) = i from
    (emb4 t (i 0) _).trans (funext fun a => Fin.ext (match a with
      | ⟨0, _⟩ => rfl
      | ⟨1, _⟩ => Nat.div_add_mod' (i 1).val 512))] at h
  exact h

/-- THE REGION'S ARRAY after the run is `GV`. -/
theorem final (c : Dev nD) : (dats m 0 c).arrAt 4 cfg0.N = GV m c :=
  (dats m 0 c).arrAt_eq_of_cover 4 (GV m c) (fun t _ => flushed_eq m c t) covered

/-! ## The result -/

/-- The kernel's result from its four arguments: `G` of the reshaped arguments, reshaped to [2, 384, 4096]. -/
def result (x : Vec Ideal S2x384x2048 .bf16) (w : Vec Ideal S4096x2048 .i8) (s : Vec Ideal S4096 .f32)
    (r : Vec Ideal S2x384x4096 .bf16) : Vec Ideal S2x384x4096 .bf16 :=
  shapeCast S2x384x4096 (G (shapeCast S768x2048 x shapeCasts_S2x384x2048_S768x2048) w (shapeCast S1x4096 s shapeCasts_S4096_S1x4096)
    (shapeCast S768x4096 r shapeCasts_S2x384x4096_S768x4096)) shapeCasts_S768x4096_S2x384x4096

/-- The operation after the region copies the region's array, reshaped, into the result buffer. -/
theorem tail (U : Valuation τ sig (Elt Ideal)) : StableHlo.after (List.flatten [hostOps1 (F := Ideal)]) U (Proc.devRef .tc main_v4)
    = shapeCast S2x384x4096 (U (Proc.devRef .tc main_v3)) shapeCasts_S768x4096_S2x384x4096 := rfl

/-- The last reshape leaves `result` of the launched arguments in the result buffer. -/
theorem W_result (c : Dev nD) : Pipeline.afterTail₀ cfgs (dats m) 0 (V0 m) [hostOps1] c main_v4
    = result (m ((c : Thread nD τ).loc main_arg0)) (m ((c : Thread nD τ).loc main_arg1)) (m ((c : Thread nD τ).loc main_arg2))
        (m ((c : Thread nD τ).loc main_arg3)) := by
  unfold Pipeline.afterTail₀
  have h : Pipeline.withArrays (cfgs 0).spec c (V0 m c) (fun w => (dats m 0 c).arrAt w (cfgs 0).N) (Proc.devRef .tc main_v3) = GV m c :=
    (Pipeline.withArrays_arr (cfgs 0).spec launch0.win.arr_inj c (V0 m c) (fun w => (dats m 0 c).arrAt w (cfgs 0).N) 4).trans (final m c)
  rw [tail, h]
  unfold GV result
  rw [V_x, V_main_arg1, V_s, V_r]

/-- THE RUN: the result is `result` of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v4)
      = result (m ((c : Thread nD τ).loc main_arg0)) (m ((c : Thread nD τ).loc main_arg1)) (m ((c : Thread nD τ).loc main_arg2))
          (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).2 main_v4 (Pipeline.mem_restRefs_of main_v4 (by decide) (by decide))).trans (W_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof.Array

end
-- ==== Proof.Reference.lean ====
/-
  Hand-written, untrusted. WHAT THE REFERENCE COMPUTES, over the extended reals, one entry at a time.
-/
module

public import proofs.«01_k».proof.Proof.Gen.ReferenceIdeal.Skeleton
public import Idealize.ShloMosaic.Lib.Pointwise

@[expose] public section

noncomputable section

namespace Cert.Proof.Reference

open Idealize.ShloMosaic Cert.ReferenceIdeal Cert.ReferenceIdeal.Gen

/-- THE REFERENCE'S RESULT at batch `b`, position `q` and output column `o`: the sum over `k` of
    `x[b, q, k] * (w[o, k] * s[o])`, plus `r[b, q, o]`. -/
theorem pay_apply (w : Vec Ideal S4096x2048 .i8) (s : Vec Ideal S4096 .f32) (x : Vec Ideal S2x384x2048 .bf16)
    (r : Vec Ideal S2x384x4096 .bf16) (b : Fin 2) (q : Fin 384) (o : Fin 4096) :
    k0_pay1 w s x r (ix3 b q o)
      = ∑ k : Fin 2048, x (ix3 b q k) * (FloatOps.sitofp (F := Ideal) .bf16 (w (ix2 o k)) * s (ix1 o)) + r (ix3 b q o) := by
  pointwise [k0_pay1]

end Cert.Proof.Reference

end
-- ==== Proof.Equation.lean ====
/-
  Hand-written, untrusted. THE EQUATION: the kernel's result is the reference's, at every entry, for every argument.
-/
module

public import proofs.«01_k».proof.Proof.Array
public import proofs.«01_k».proof.Proof.Reference

@[expose] public section

noncomputable section

namespace Cert.Proof.Equation

open Idealize.ShloMosaic Cert.KernelIdeal

/-- The kernel's result at batch `b`, position `q` and output column `o`: the reshapes only rename token `384 * b + q`, so
    it is the sum over `k` of `x[b, q, k] * (w[o, k] * s[o])`, plus `r[b, q, o]`. -/
theorem result_apply (x : Vec Ideal S2x384x2048 .bf16) (w : Vec Ideal S4096x2048 .i8) (s : Vec Ideal S4096 .f32)
    (r : Vec Ideal S2x384x4096 .bf16) (b : Fin 2) (q : Fin 384) (o : Fin 4096) :
    Array.result x w s r (ix3 b q o)
      = ∑ k : Fin 2048, x (ix3 b q k) * (FloatOps.sitofp (F := Ideal) .bf16 (w (ix2 o k)) * s (ix1 o)) + r (ix3 b q o) := by
  pointwise [Array.result, Array.G]

/-- THE EQUATION: on the same four arguments the kernel and the reference have the same result. -/
theorem result_eq (x : Vec Ideal S2x384x2048 .bf16) (w : Vec Ideal S4096x2048 .i8) (s : Vec Ideal S4096 .f32)
    (r : Vec Ideal S2x384x4096 .bf16) : Array.result x w s r = Cert.ReferenceIdeal.Gen.k0_pay1 w s x r := by
  funext j
  obtain ⟨b, q, o, rfl⟩ : ∃ (b : Fin 2) (q : Fin 384) (o : Fin 4096), j = ix3 b q o :=
    ⟨j 0, j 1, j 2, by funext a; match a with | ⟨0, _⟩ => rfl | ⟨1, _⟩ => rfl | ⟨2, _⟩ => rfl⟩
  exact (result_apply x w s r b q o).trans (Reference.pay_apply w s x r b q o).symm

end Cert.Proof.Equation

end
-- ==== Proof.lean ====
/- The certificate's proof, hand-written, untrusted: the three programs' frames come from the generated modules, `preserves`
   holds since no operation of the kernel was replaced, and the two idealized programs' results are equal by
   `Equation.result_eq`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From the same arguments the idealized kernel and the idealized reference end with the same result, and leave their
    arguments unchanged. -/
theorem algebraic : Cert.algebraic_KernelIdeal_ReferenceIdeal := by
  intro m ρ m' ρ' _ hargs
  refine ⟨fun c => Array.result (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)),
    Array.run m ρ, ?_⟩
  refine (θ_run _ _ _).mono (fun r h c => ?_) (Cert.ReferenceIdeal.Value.run m' ρ')
  obtain ⟨h0, h1, h2, h3⟩ := hargs c
  obtain ⟨hv, hk⟩ := h c
  refine ⟨hv.trans ?_, hk⟩
  show Cert.ReferenceIdeal.Value.G4 _ _ _ _ = _
  rw [h0, h1, h2, h3]
  exact (Equation.result_eq _ _ _ _).symm

/-- THE CERTIFICATE: every claim of the check holds. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => Cert.ReferenceIdeal.Gen.frame m ρ, trivial, algebraic⟩⟩

end Cert.Proof

end
